-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S16384x50 : Shape := ⟨2, ![16384, 50]⟩
abbrev S_ : Shape := ⟨0, ![]⟩

class Facts : Prop where
  bcast_S_S16384x50 : S_.BroadcastsInDim S16384x50 (![] : Fin 0 → Fin S16384x50.rank)
  reducesTo_S16384x50_S_d0_1 : S16384x50.ReducesTo [0, 1] S_
  h_S_ : 0 < S_.numel

variable [Facts]

def fn_part1 {F : FTy → Type} [FloatOps F] (main_arg2 : IVec S16384x50 32) (main_arg3 : IVec S16384x50 32) (main_v12 : IVec S_ 1) (main_v14 : IVec S16384x50 1) (main_v15 : IVec S16384x50 32) : IVec S_ 1 :=
  let main_v16 : IVec S16384x50 1 := cmpi .slt main_arg2 main_v15
  let main_v17 : IVec S16384x50 1 := andi main_v14 main_v16
  let main_c_7 : IVec S_ 1 := constantI S_ 1 1#1
  let main_v18 : IVec S_ 1 := (fun x v => Host.reduce IntOp.andi x v reducesTo_S16384x50_S_d0_1 h_S_) main_v17 main_c_7
  let main_v19 : IVec S_ 1 := andi main_v12 main_v18
  let main_c_8 : IVec S_ 32 := constantI S_ 32 0#32
  let main_v20 : IVec S16384x50 32 := broadcastInDim S16384x50 ![] bcast_S_S16384x50 main_c_8
  let main_v21 : IVec S16384x50 1 := cmpi .sge main_arg3 main_v20
  let main_c_9 : IVec S_ 32 := constantI S_ 32 12#32
  let main_v22 : IVec S16384x50 32 := broadcastInDim S16384x50 ![] bcast_S_S16384x50 main_c_9
  let main_v23 : IVec S16384x50 1 := cmpi .slt main_arg3 main_v22
  let main_v24 : IVec S16384x50 1 := andi main_v21 main_v23
  let main_c_10 : IVec S_ 1 := constantI S_ 1 1#1
  let main_v25 : IVec S_ 1 := (fun x v => Host.reduce IntOp.andi x v reducesTo_S16384x50_S_d0_1 h_S_) main_v24 main_c_10
  let main_v26 : IVec S_ 1 := andi main_v19 main_v25
  main_v26

def fn {F : FTy → Type} [FloatOps F] (main_arg0 : IVec S16384x50 32) (main_arg1 : IVec S16384x50 32) (main_arg2 : IVec S16384x50 32) (main_arg3 : IVec S16384x50 32) : IVec S_ 1 :=
  let main_c : IVec S_ 32 := constantI S_ 32 0#32
  let main_v0 : IVec S16384x50 32 := broadcastInDim S16384x50 ![] bcast_S_S16384x50 main_c
  let main_v1 : IVec S16384x50 1 := cmpi .sge main_arg0 main_v0
  let main_c_0 : IVec S_ 32 := constantI S_ 32 24#32
  let main_v2 : IVec S16384x50 32 := broadcastInDim S16384x50 ![] bcast_S_S16384x50 main_c_0
  let main_v3 : IVec S16384x50 1 := cmpi .slt main_arg0 main_v2
  let main_v4 : IVec S16384x50 1 := andi main_v1 main_v3
  let main_c_1 : IVec S_ 1 := constantI S_ 1 1#1
  let main_v5 : IVec S_ 1 := (fun x v => Host.reduce IntOp.andi x v reducesTo_S16384x50_S_d0_1 h_S_) main_v4 main_c_1
  let main_c_2 : IVec S_ 32 := constantI S_ 32 0#32
  let main_v6 : IVec S16384x50 32 := broadcastInDim S16384x50 ![] bcast_S_S16384x50 main_c_2
  let main_v7 : IVec S16384x50 1 := cmpi .sge main_arg1 main_v6
  let main_c_3 : IVec S_ 32 := constantI S_ 32 7#32
  let main_v8 : IVec S16384x50 32 := broadcastInDim S16384x50 ![] bcast_S_S16384x50 main_c_3
  let main_v9 : IVec S16384x50 1 := cmpi .slt main_arg1 main_v8
  let main_v10 : IVec S16384x50 1 := andi main_v7 main_v9
  let main_c_4 : IVec S_ 1 := constantI S_ 1 1#1
  let main_v11 : IVec S_ 1 := (fun x v => Host.reduce IntOp.andi x v reducesTo_S16384x50_S_d0_1 h_S_) main_v10 main_c_4
  let main_v12 : IVec S_ 1 := andi main_v5 main_v11
  let main_c_5 : IVec S_ 32 := constantI S_ 32 0#32
  let main_v13 : IVec S16384x50 32 := broadcastInDim S16384x50 ![] bcast_S_S16384x50 main_c_5
  let main_v14 : IVec S16384x50 1 := cmpi .sge main_arg2 main_v13
  let main_c_6 : IVec S_ 32 := constantI S_ 32 31#32
  let main_v15 : IVec S16384x50 32 := broadcastInDim S16384x50 ![] bcast_S_S16384x50 main_c_6
  fn_part1 (F := F) main_arg2 main_arg3 main_v12 main_v14 main_v15
-- ==== Kernel.lean ====
abbrev S16384x50 : Shape := ⟨2, ![16384, 50]⟩
abbrev S50x16384 : Shape := ⟨2, ![50, 16384]⟩
abbrev S50x74x16384 : Shape := ⟨3, ![50, 74, 16384]⟩
abbrev S16384x50x74 : Shape := ⟨3, ![16384, 50, 74]⟩
abbrev S50x256 : Shape := ⟨2, ![50, 256]⟩
abbrev S50x74x256 : Shape := ⟨3, ![50, 74, 256]⟩
abbrev S74x1 : Shape := ⟨2, ![74, 1]⟩
abbrev S1x256 : Shape := ⟨2, ![1, 256]⟩
abbrev S74x256 : Shape := ⟨2, ![74, 256]⟩
abbrev S1x74x256 : Shape := ⟨3, ![1, 74, 256]⟩

abbrev nBuf : Space → Nat
  | .hbm => 10
  | .vmem => 10
  | .smem => 0
  | _ => 0

abbrev bufTy : (tb : Table) → Fin (tcTables nBuf tb) → BufTy
  | .hbm, ⟨0, _⟩ => ⟨S16384x50, .i32⟩
  | .hbm, ⟨1, _⟩ => ⟨S16384x50, .i32⟩
  | .hbm, ⟨2, _⟩ => ⟨S16384x50, .i32⟩
  | .hbm, ⟨3, _⟩ => ⟨S16384x50, .i32⟩
  | .hbm, ⟨4, _⟩ => ⟨S50x16384, .i32⟩
  | .hbm, ⟨5, _⟩ => ⟨S50x16384, .i32⟩
  | .hbm, ⟨6, _⟩ => ⟨S50x16384, .i32⟩
  | .hbm, ⟨7, _⟩ => ⟨S50x16384, .i32⟩
  | .hbm, ⟨8, _⟩ => ⟨S50x74x16384, .f32⟩
  | .hbm, ⟨9, _⟩ => ⟨S16384x50x74, .f32⟩
  | .local _ .vmem, ⟨0, _⟩ => ⟨S50x256, .i32⟩
  | .local _ .vmem, ⟨1, _⟩ => ⟨S50x256, .i32⟩
  | .local _ .vmem, ⟨2, _⟩ => ⟨S50x256, .i32⟩
  | .local _ .vmem, ⟨3, _⟩ => ⟨S50x256, .i32⟩
  | .local _ .vmem, ⟨4, _⟩ => ⟨S50x256, .i32⟩
  | .local _ .vmem, ⟨5, _⟩ => ⟨S50x256, .i32⟩
  | .local _ .vmem, ⟨6, _⟩ => ⟨S50x256, .i32⟩
  | .local _ .vmem, ⟨7, _⟩ => ⟨S50x256, .i32⟩
  | .local _ .vmem, ⟨8, _⟩ => ⟨S50x74x256, .f32⟩
  | .local _ .vmem, ⟨9, _⟩ => ⟨S50x74x256, .f32⟩
  | _, _ => ⟨S16384x50, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S50x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S50x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S50x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S50x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S50x74x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16384x50 : Shape := ⟨2, ![16384, 50]⟩
abbrev S_ : Shape := ⟨0, ![]⟩
abbrev S16384x50x1 : Shape := ⟨3, ![16384, 50, 1]⟩
abbrev S1x1x24 : Shape := ⟨3, ![1, 1, 24]⟩
abbrev S16384x50x24 : Shape := ⟨3, ![16384, 50, 24]⟩
abbrev S1x1x7 : Shape := ⟨3, ![1, 1, 7]⟩
abbrev S16384x50x7 : Shape := ⟨3, ![16384, 50, 7]⟩
abbrev S1x1x31 : Shape := ⟨3, ![1, 1, 31]⟩
abbrev S16384x50x31 : Shape := ⟨3, ![16384, 50, 31]⟩
abbrev S1x1x12 : Shape := ⟨3, ![1, 1, 12]⟩
abbrev S16384x50x12 : Shape := ⟨3, ![16384, 50, 12]⟩
abbrev S16384x50x74 : Shape := ⟨3, ![16384, 50, 74]⟩

abbrev nBuf : Space → Nat
  | .hbm => 61
  | .vmem => 0
  | .smem => 0
  | _ => 0

abbrev bufTy : (tb : Table) → Fin (tcTables nBuf tb) → BufTy
  | .hbm, ⟨0, _⟩ => ⟨S16384x50, .i32⟩
  | .hbm, ⟨1, _⟩ => ⟨S16384x50, .i32⟩
  | .hbm, ⟨2, _⟩ => ⟨S16384x50, .i32⟩
  | .hbm, ⟨3, _⟩ => ⟨S16384x50, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S16384x50, .i32⟩
  | .hbm, ⟨8, _⟩ => ⟨S16384x50, .i32⟩
  | .hbm, ⟨9, _⟩ => ⟨S_, .i32⟩
  | .hbm, ⟨10, _⟩ => ⟨S16384x50, .i32⟩
  | .hbm, ⟨11, _⟩ => ⟨S16384x50, .i32⟩
  | .hbm, ⟨12, _⟩ => ⟨S16384x50x1, .i32⟩
  | .hbm, ⟨13, _⟩ => ⟨S1x1x24, .i32⟩
  | .hbm, ⟨14, _⟩ => ⟨S16384x50x24, .i32⟩
  | .hbm, ⟨15, _⟩ => ⟨S16384x50x24, .i32⟩
  | .hbm, ⟨16, _⟩ => ⟨S16384x50x24, .i1⟩
  | .hbm, ⟨17, _⟩ => ⟨S16384x50x24, .f32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S16384x50, .i32⟩
  | .hbm, ⟨22, _⟩ => ⟨S16384x50, .i32⟩
  | .hbm, ⟨23, _⟩ => ⟨S_, .i32⟩
  | .hbm, ⟨24, _⟩ => ⟨S16384x50, .i32⟩
  | .hbm, ⟨25, _⟩ => ⟨S16384x50, .i32⟩
  | .hbm, ⟨26, _⟩ => ⟨S16384x50x1, .i32⟩
  | .hbm, ⟨27, _⟩ => ⟨S1x1x7, .i32⟩
  | .hbm, ⟨28, _⟩ => ⟨S16384x50x7, .i32⟩
  | .hbm, ⟨29, _⟩ => ⟨S16384x50x7, .i32⟩
  | .hbm, ⟨30, _⟩ => ⟨S16384x50x7, .i1⟩
  | .hbm, ⟨31, _⟩ => ⟨S16384x50x7, .f32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S16384x50, .i32⟩
  | .hbm, ⟨36, _⟩ => ⟨S16384x50, .i32⟩
  | .hbm, ⟨37, _⟩ => ⟨S_, .i32⟩
  | .hbm, ⟨38, _⟩ => ⟨S16384x50, .i32⟩
  | .hbm, ⟨39, _⟩ => ⟨S16384x50, .i32⟩
  | .hbm, ⟨40, _⟩ => ⟨S16384x50x1, .i32⟩
  | .hbm, ⟨41, _⟩ => ⟨S1x1x31, .i32⟩
  | .hbm, ⟨42, _⟩ => ⟨S16384x50x31, .i32⟩
  | .hbm, ⟨43, _⟩ => ⟨S16384x50x31, .i32⟩
  | .hbm, ⟨44, _⟩ => ⟨S16384x50x31, .i1⟩
  | .hbm, ⟨45, _⟩ => ⟨S16384x50x31, .f32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S16384x50, .i32⟩
  | .hbm, ⟨50, _⟩ => ⟨S16384x50, .i32⟩
  | .hbm, ⟨51, _⟩ => ⟨S_, .i32⟩
  | .hbm, ⟨52, _⟩ => ⟨S16384x50, .i32⟩
  | .hbm, ⟨53, _⟩ => ⟨S16384x50, .i32⟩
  | .hbm, ⟨54, _⟩ => ⟨S16384x50x1, .i32⟩
  | .hbm, ⟨55, _⟩ => ⟨S1x1x12, .i32⟩
  | .hbm, ⟨56, _⟩ => ⟨S16384x50x12, .i32⟩
  | .hbm, ⟨57, _⟩ => ⟨S16384x50x12, .i32⟩
  | .hbm, ⟨58, _⟩ => ⟨S16384x50x12, .i1⟩
  | .hbm, ⟨59, _⟩ => ⟨S16384x50x12, .f32⟩
  | .hbm, ⟨60, _⟩ => ⟨S16384x50x74, .f32⟩
  | _, _ => ⟨S16384x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_v1 : Ref sig .tc := ⟨.hbm, 17, rfl⟩
abbrev main_c_1 : Ref sig .tc := ⟨.hbm, 18, rfl⟩
abbrev main_c_2 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_v2 : Ref sig .tc := ⟨.hbm, 25, rfl⟩
abbrev main_call3_v0 : Ref sig .tc := ⟨.hbm, 26, rfl⟩
abbrev main_call3_v1 : Ref sig .tc := ⟨.hbm, 27, rfl⟩
abbrev main_call3_v2 : Ref sig .tc := ⟨.hbm, 28, rfl⟩
abbrev main_call3_v3 : Ref sig .tc := ⟨.hbm, 29, rfl⟩
abbrev main_call3_v4 : Ref sig .tc := ⟨.hbm, 30, rfl⟩
abbrev main_v3 : Ref sig .tc := ⟨.hbm, 31, rfl⟩
abbrev main_c_3 : Ref sig .tc := ⟨.hbm, 32, rfl⟩
abbrev main_c_4 : Ref sig .tc := ⟨.hbm, 33, rfl⟩
abbrev main_call4_v0 : Ref sig .tc := ⟨.hbm, 34, rfl⟩
abbrev main_call4_v1 : Ref sig .tc := ⟨.hbm, 35, rfl⟩
abbrev main_call4_v2 : Ref sig .tc := ⟨.hbm, 36, rfl⟩
abbrev main_call4_v3 : Ref sig .tc := ⟨.hbm, 37, rfl⟩
abbrev main_call4_v4 : Ref sig .tc := ⟨.hbm, 38, rfl⟩
abbrev main_v4 : Ref sig .tc := ⟨.hbm, 39, rfl⟩
abbrev main_call5_v0 : Ref sig .tc := ⟨.hbm, 40, rfl⟩
abbrev main_call5_v1 : Ref sig .tc := ⟨.hbm, 41, rfl⟩
abbrev main_call5_v2 : Ref sig .tc := ⟨.hbm, 42, rfl⟩
abbrev main_call5_v3 : Ref sig .tc := ⟨.hbm, 43, rfl⟩
abbrev main_call5_v4 : Ref sig .tc := ⟨.hbm, 44, rfl⟩
abbrev main_v5 : Ref sig .tc := ⟨.hbm, 45, rfl⟩
abbrev main_c_5 : Ref sig .tc := ⟨.hbm, 46, rfl⟩
abbrev main_c_6 : Ref sig .tc := ⟨.hbm, 47, rfl⟩
abbrev main_call6_v0 : Ref sig .tc := ⟨.hbm, 48, rfl⟩
abbrev main_call6_v1 : Ref sig .tc := ⟨.hbm, 49, rfl⟩
abbrev main_call6_v2 : Ref sig .tc := ⟨.hbm, 50, rfl⟩
abbrev main_call6_v3 : Ref sig .tc := ⟨.hbm, 51, rfl⟩
abbrev main_call6_v4 : Ref sig .tc := ⟨.hbm, 52, rfl⟩
abbrev main_v6 : Ref sig .tc := ⟨.hbm, 53, rfl⟩
abbrev main_call7_v0 : Ref sig .tc := ⟨.hbm, 54, rfl⟩
abbrev main_call7_v1 : Ref sig .tc := ⟨.hbm, 55, rfl⟩
abbrev main_call7_v2 : Ref sig .tc := ⟨.hbm, 56, rfl⟩
abbrev main_call7_v3 : Ref sig .tc := ⟨.hbm, 57, rfl⟩
abbrev main_call7_v4 : Ref sig .tc := ⟨.hbm, 58, rfl⟩
abbrev main_v7 : Ref sig .tc := ⟨.hbm, 59, rfl⟩
abbrev main_v8 : Ref sig .tc := ⟨.hbm, 60, rfl⟩

abbrev nD : Nat := 1
abbrev τ : Topo := Topo.v7x

variable {F : FTy → Type} [FloatOps F]
-- ==== Proof.Word.lean ====
/-
  The packed word. The kernel puts its four fields in the four bytes of one 32-bit word, each field offset by the first
  feature lane of its one-hot (hour from 0, day of week from 24, day of month from 31, month from 62), and asks of a
  lane whether the byte of the lane's field is the lane's own number. This module is about words only: what a lane's
  mask keeps of the word, and when the comparison holds.
-/
module

public import Idealize.ShloMosaic.PureOps.Vector

@[expose] public section

namespace Cert.Proof.Word

/-- The byte of the packed word that lane `f` looks at: 0 the hour's, 1 the day of week's, 2 the day of month's, 3 the
    month's. -/
def byteOf (f : Nat) : Nat := if f < 24 then 0 else if f < 31 then 1 else if f < 62 then 2 else 3

/-- The first lane of a byte's field. -/
def base (k : Nat) : Nat := match k with | 0 => 0 | 1 => 24 | 2 => 31 | _ => 62

/-- The field in a byte, out of the four. -/
def field (h d m o : BitVec 32) (k : Nat) : BitVec 32 := match k with | 0 => h | 1 => d | 2 => m | _ => o

/-- The four fields are in the ranges of the four one-hots. -/
def InRange (h d m o : BitVec 32) : Prop := h.toNat < 24 ∧ d.toNat < 7 ∧ m.toNat < 31 ∧ o.toNat < 12

/-- The packed word, summed in the kernel's order. -/
def pack (h d m o : BitVec 32) : BitVec 32 := h + (d <<< 8) + (m <<< 16) + (o <<< 24) + 1042225152#32

/-- A word shifted left, as a number. -/
theorem shl_toNat (x : BitVec 32) (k : Nat) : (x <<< k).toNat = x.toNat * 2 ^ k % 4294967296 := by
  rw [BitVec.toNat_shiftLeft, Nat.shiftLeft_eq]

/-- The kernel's sum of in-range fields, wrapped at every step, wraps nowhere. -/
theorem sum_mod (a b c e : Nat) (h1 : a < 24) (h2 : b < 7) (h3 : c < 31) (h4 : e < 12) :
    ((((a + b * 256 % 4294967296) % 4294967296 + c * 65536 % 4294967296) % 4294967296 + e * 16777216 % 4294967296)
      % 4294967296 + 1042225152) % 4294967296
      = a + (b + 24) * 256 + (c + 31) * 65536 + (e + 62) * 16777216 := by
  omega

/-- Of fields in range nothing carries from one byte into the next. -/
theorem pack_toNat {h d m o : BitVec 32} (hr : InRange h d m o) :
    (pack h d m o).toNat = h.toNat + (d.toNat + 24) * 256 + (m.toNat + 31) * 65536 + (o.toNat + 62) * 16777216 := by
  obtain ⟨h1, h2, h3, h4⟩ := hr
  unfold pack
  rw [BitVec.toNat_add, BitVec.toNat_add, BitVec.toNat_add, BitVec.toNat_add, shl_toNat, shl_toNat, shl_toNat]
  exact sum_mod _ _ _ _ h1 h2 h3 h4

/-- The four bytes of such a sum, read back. -/
theorem sum_bytes (a b c e : Nat) (h1 : a < 24) (h2 : b < 7) (h3 : c < 31) (h4 : e < 12) (x : Nat)
    (hx : x = a + (b + 24) * 256 + (c + 31) * 65536 + (e + 62) * 16777216) :
    x % 256 = a ∧ x / 256 % 256 = b + 24 ∧ x / 65536 % 256 = c + 31 ∧ x / 16777216 % 256 = e + 62 := by
  omega

/-- Byte `k` of the packed word is its field plus the field's first lane. -/
theorem pack_byte {h d m o : BitVec 32} (hr : InRange h d m o) (k : Nat) (hk : k < 4) :
    (pack h d m o).toNat / 2 ^ (8 * k) % 256 = (field h d m o k).toNat + base k := by
  obtain ⟨h1, h2, h3, h4⟩ := hr
  obtain ⟨e0, e1, e2, e3⟩ := sum_bytes _ _ _ _ h1 h2 h3 h4 _ (pack_toNat ⟨h1, h2, h3, h4⟩)
  generalize (pack h d m o).toNat = x at *
  match k, hk with
  | 0, _ => exact (congrArg (· % 256) (Nat.div_one x)).trans e0
  | 1, _ => exact e1
  | 2, _ => exact e2
  | 3, _ => exact e3

/-- Masking a number by a shifted byte of ones keeps that byte, in place. -/
theorem and_byte (x k : Nat) : x &&& (255 * 2 ^ k) = x / 2 ^ k % 256 * 2 ^ k := by
  rw [show (256 : Nat) = 2 ^ 8 from rfl, ← Nat.and_two_pow_sub_one_eq_mod, ← Nat.shiftLeft_eq, ← Nat.shiftLeft_eq,
    ← Nat.shiftRight_eq_div_pow]
  apply Nat.eq_of_testBit_eq
  intro i
  by_cases hi : k ≤ i <;> simp [hi, Nat.testBit_shiftLeft]

/-- The comparison a lane makes: the packed word under the lane's mask is the lane's number in the mask's byte exactly
    when the lane's field plus its first lane is the lane. -/
theorem hit_iff {h d m o : BitVec 32} (hr : InRange h d m o) (f k : Nat) (hf : f < 74) (hk : k < 4) :
    pack h d m o &&& (255#32 <<< (8 * k)) = BitVec.ofNat 32 f <<< (8 * k) ↔ (field h d m o k).toNat + base k = f := by
  have e1 : (255#32 <<< (8 * k)).toNat = 255 * 2 ^ (8 * k) := by
    match k, hk with
    | 0, _ => rfl
    | 1, _ => rfl
    | 2, _ => rfl
    | 3, _ => rfl
  have e2 : (BitVec.ofNat 32 f <<< (8 * k)).toNat = f * 2 ^ (8 * k) := by
    rw [shl_toNat, BitVec.toNat_ofNat, Nat.mod_eq_of_lt (Nat.lt_of_lt_of_le hf (by decide)), Nat.mod_eq_of_lt]
    have : 2 ^ (8 * k) ≤ 2 ^ 24 := Nat.pow_le_pow_right (by decide) (by omega)
    generalize 2 ^ (8 * k) = y at *
    calc f * y ≤ 73 * 2 ^ 24 := Nat.mul_le_mul (by omega) this
      _ < 4294967296 := by decide
  rw [← pack_byte hr k hk, ← BitVec.toNat_inj, BitVec.toNat_and, e1, e2, and_byte]
  exact Nat.mul_left_inj (Nat.two_pow_pos _).ne'

end Cert.Proof.Word

end
-- ==== Proof.Block.lean ====
/-
  One block of the kernel: what the body leaves in the result's staging buffer at one grid point. The body packs the four
  index blocks into one block of words and then, row by row, compares every lane's byte of the row's words with the lane's
  number; its fifty stores together write the block `hits`.
-/
module

public import proofs.«01_k».proof.Proof.Word
public import proofs.«01_k».proof.Proof.Gen.KernelIdeal.Frame
public import Idealize.ShloMosaic.Lib.Pointwise
public import Idealize.ShloMosaic.Lib.Pipeline.ValueKit.Geometry

@[expose] public section

noncomputable section

namespace Cert.Proof.Block

open Idealize.ShloMosaic Cert.KernelIdeal Cert.KernelIdeal.Gen Cert.Proof.Word

variable {F : FTy → Type} [FloatOps F]

/-- What lane `f` answers about the packed word `w`: 1 where the word's byte for the lane is the lane's number, else 0. -/
def lane (F : FTy → Type) [FloatOps F] (w : BitVec 32) (f : Nat) : F .f32 :=
  FloatOps.sitofp .f32 ((IntOp.cmpi .eq (w &&& (255#32 <<< (8 * byteOf f))) (BitVec.ofNat 32 f <<< (8 * byteOf f))).setWidth 32)

/-- The block of packed words, answered by every lane. -/
def hits (F : FTy → Type) [FloatOps F] (w : IVec S50x256 32) (y : S50x74x256.Idx) : F .f32 :=
  lane F (w (ix2 (y 0) (y 2))) (y 1).val

/-- The mask of lane `f`: a byte of ones in the lane's byte. -/
theorem mask_apply (f : Fin 74) : k0_pay4 (ix2 f 0) = 255#32 <<< (8 * byteOf f.val) := by
  pointwise [k0_pay4, k0_pay3]
  revert f; decide +kernel

/-- The target of lane `f`: the lane's number in the lane's byte. -/
theorem target_apply (f : Fin 74) : k0_pay5 (ix2 f 0) = BitVec.ofNat 32 f.val <<< (8 * byteOf f.val) := by
  pointwise [k0_pay5, k0_pay3]
  revert f; decide +kernel

/-- Row `h` of the body, as one expression over the mask, the target and the packed words. -/
def row (F : FTy → Type) [FloatOps F] (h : Nat) (hs : S50x256.Slices ![h, 0] S1x256) (w : IVec S50x256 32) :
    FVec F S1x74x256 .f32 :=
  shapeCast S1x74x256 (sitofp .f32 (extui 32 (cmpi .eq
    (andi (broadcastTo S74x256 (extractStridedSlice S1x256 ![h, 0] w hs) broadcasts_S1x256_S74x256)
      (broadcastTo S74x256 k0_pay4 broadcasts_S74x1_S74x256))
    (broadcastTo S74x256 k0_pay5 broadcasts_S74x1_S74x256)) natLt_1_32)) shapeCasts_S74x256_S1x74x256

/-- A row at an index: the lane's answer about the row's word in the column. -/
theorem row_apply (h : Nat) (hh : h < 50) (hs : S50x256.Slices ![h, 0] S1x256) (w : IVec S50x256 32) (z : Fin 1)
    (f : Fin 74) (b : Fin 256) : row F h hs w (ix3 z f b) = lane F (w (ix2 ⟨h, hh⟩ b)) f.val := by
  unfold row lane
  pointwise
  rw [mask_apply, target_apply]
  rfl

/-- A row, stored at its place in the block, agrees with `hits`. -/
theorem row_piece (h : Nat) (hs : S50x256.Slices ![h, 0] S1x256)
    (inb : ∀ a, (![h, 0, 0] : Fin 3 → Nat) a + S1x74x256.size a ≤ S50x74x256.size a) (w : IVec S50x256 32)
    (x : S1x74x256.Idx) :
    row F h hs w x = hits F w ((Rect.unit (s := S50x74x256) ![h, 0, 0] S1x74x256.size inb).emb x) := by
  idx_vars x
  have hh : h < 50 := inb 0
  rw [row_apply h hh]
  unfold hits
  have e (a : Fin 3) := ValueKit.rect_emb_unit_val (s := S50x74x256) ![h, 0, 0] S1x74x256.size inb (ix3 x0 x1 x2) a
  have e0 : (Rect.unit (s := S50x74x256) ![h, 0, 0] S1x74x256.size inb).emb (ix3 x0 x1 x2) 0 = (⟨h, hh⟩ : Fin 50) :=
    Fin.ext ((e 0).trans (congrArg (h + ·) (Nat.lt_one_iff.1 x0.isLt)))
  have e1 : ((Rect.unit (s := S50x74x256) ![h, 0, 0] S1x74x256.size inb).emb (ix3 x0 x1 x2) 1).val = x1.val :=
    (e 1).trans (Nat.zero_add _)
  have e2 : (Rect.unit (s := S50x74x256) ![h, 0, 0] S1x74x256.size inb).emb (ix3 x0 x1 x2) 2 = x2 :=
    Fin.ext ((e 2).trans (Nat.zero_add _))
  rw [e1]
  exact congrArg (fun i => lane F (w i) x1.val) (congrArg₂ ix2 e0 e2).symm

/-- The body's packed words, from the four blocks it loads whole. -/
theorem packed_apply (x0 x1 x2 x3 : Vec F S50x256 .i32) (h : Fin 50) (b : Fin 256) :
    k0_pay70 x0 x1 x2 x3 (ix2 h b) = pack (x0 (ix2 h b)) (x1 (ix2 h b)) (x2 (ix2 h b)) (x3 (ix2 h b)) := by
  pointwise [k0_pay70, k0_pay6]
  rfl

/-- The body's stores, together: the staging buffer holds every lane's answer about the packed words. -/
theorem out_eq (x0 x1 x2 x3 : Vec F S50x256 .i32) (y : S50x74x256.Idx) :
    out0_4 x0 x1 x2 x3 y = hits F (k0_pay70 x0 x1 x2 x3) y := by
  unfold out0_4
  refine View.canon_apply_of_pieces (hits F (k0_pay70 x0 x1 x2 x3)) _ ?_ y (cover0_4 _ _ _ _ _ _ _ _ _ _ _ _ _ _ _ _ _ _ _ _ _ _ _ _ _ _ _ _ _ _ _ _ _ _ _ _ _ _ _ _ _ _ _ _ _ _ _ _ _ _ y)
  iterate 50 refine List.forall_mem_cons.2 ⟨row_piece _ _ (by decide) _, ?_⟩
  exact List.forall_mem_nil _

/-- The staging buffer at an index, in the four loaded blocks' words. -/
theorem out_apply (x0 x1 x2 x3 : Vec F S50x256 .i32) (h : Fin 50) (f : Fin 74) (b : Fin 256) :
    out0_4 x0 x1 x2 x3 (ix3 h f b)
      = lane F (pack (x0 (ix2 h b)) (x1 (ix2 h b)) (x2 (ix2 h b)) (x3 (ix2 h b))) f.val :=
  (out_eq x0 x1 x2 x3 _).trans (congrArg (lane F · f.val) (packed_apply x0 x1 x2 x3 h b))

end Cert.Proof.Block

end
-- ==== Proof.Array.lean ====
/-
  The kernel's result array. The launch runs the body at sixty-four points of the batch axis; the blocks it writes back
  tile the array, so the array holds `laneMajor` of the four arguments everywhere; and the transpose after the launch
  turns that into `answers`, which is indexed as the result is.
-/
module

public import proofs.«01_k».proof.Proof.Block
public import Idealize.ShloMosaic.Lib.StableHlo.ReadAt
public import Idealize.ShloMosaic.Lib.Pipeline.FrameSuffix

@[expose] public section

noncomputable section

namespace Cert.Proof.Array

open Idealize.ShloMosaic Idealize.ShloMosaic.TcCoe Idealize.SL.Sem Cert.KernelIdeal Cert.KernelIdeal.Gen Cert.Proof.Word Cert.Proof.Block

variable {F : FTy → Type} [FloatOps F]

/-- The packed word of one position of the four arguments. -/
def word (a0 a1 a2 a3 : IVec S16384x50 32) (i : S16384x50.Idx) : BitVec 32 := pack (a0 i) (a1 i) (a2 i) (a3 i)

/-- The result: batch, position, lane. -/
def answers (F : FTy → Type) [FloatOps F] (a0 a1 a2 a3 : IVec S16384x50 32) (i : S16384x50x74.Idx) : F .f32 :=
  lane F (word a0 a1 a2 a3 (ix2 (i 0) (i 1))) (i 2).val

/-- The same as the launch leaves it: position, lane, batch. -/
def laneMajor (F : FTy → Type) [FloatOps F] (a0 a1 a2 a3 : IVec S16384x50 32) (j : S50x74x16384.Idx) : F .f32 :=
  lane F (word a0 a1 a2 a3 (ix2 (j 2) (j 0))) (j 1).val

variable (m : (ℓ : Loc nD τ sig) → Buf (Elt F) ℓ) (ρ : Dev nD → PrngReg)

/-- The launch finds the hour argument transposed. -/
theorem V_0 (c : Dev nD) (h : Fin 50) (b : Fin 16384) :
    V m c main_call0_v0 (ix2 h b) = m ((c : Thread nD τ).loc main_arg0) (ix2 b h) := by
  unfold V V0
  after_reads_at

/-- The launch finds the day-of-week argument transposed. -/
theorem V_1 (c : Dev nD) (h : Fin 50) (b : Fin 16384) :
    V m c main_call0_v1 (ix2 h b) = m ((c : Thread nD τ).loc main_arg1) (ix2 b h) := by
  unfold V V0
  after_reads_at

/-- The launch finds the day-of-month argument transposed. -/
theorem V_2 (c : Dev nD) (h : Fin 50) (b : Fin 16384) :
    V m c main_call0_v2 (ix2 h b) = m ((c : Thread nD τ).loc main_arg2) (ix2 b h) := by
  unfold V V0
  after_reads_at

/-- The launch finds the month argument transposed. -/
theorem V_3 (c : Dev nD) (h : Fin 50) (b : Fin 16384) :
    V m c main_call0_v3 (ix2 h b) = m ((c : Thread nD τ).loc main_arg3) (ix2 b h) := by
  unfold V V0
  after_reads_at

/-! Every window's block at point `t` is the `t`-th along the batch axis. -/

theorem idx_in0 : ∀ t : Fin cfg0.N, win0_0.index t = ![0, t.val] := (by decide +kernel : ∀ t : Fin grid0.N, _)
theorem idx_in1 : ∀ t : Fin cfg0.N, win0_1.index t = ![0, t.val] := (by decide +kernel : ∀ t : Fin grid0.N, _)
theorem idx_in2 : ∀ t : Fin cfg0.N, win0_2.index t = ![0, t.val] := (by decide +kernel : ∀ t : Fin grid0.N, _)
theorem idx_in3 : ∀ t : Fin cfg0.N, win0_3.index t = ![0, t.val] := (by decide +kernel : ∀ t : Fin grid0.N, _)
theorem idx_out : ∀ t : Fin cfg0.N, win0_4.index t = ![0, 0, t.val] := (by decide +kernel : ∀ t : Fin grid0.N, _)

/-- The batch element at column `b` of point `t`'s blocks. -/
def col (t : Fin cfg0.N) (b : Fin 256) : Fin 16384 :=
  ⟨t.val * 256 + b.val, by have h : t.val < 64 := t.isLt; have := b.isLt; omega⟩

/-- Point `t`'s hour block, in the argument's elements. -/
theorem iblk_0 (c : Dev nD) (t : Fin cfg0.N) (h : Fin 50) (b : Fin 256) :
    iblk m c 0 t (ix2 h b) = m ((c : Thread nD τ).loc main_arg0) (ix2 (col t b) h) := by
  refine Eq.trans ?_ (V_0 m c h (col t b))
  blk_simp [iblk]
  refine congrArg (V m c main_call0_v0) ?_
  blk_ext [idx_in0]
  rfl

/-- Point `t`'s day-of-week block, in the argument's elements. -/
theorem iblk_1 (c : Dev nD) (t : Fin cfg0.N) (h : Fin 50) (b : Fin 256) :
    iblk m c 1 t (ix2 h b) = m ((c : Thread nD τ).loc main_arg1) (ix2 (col t b) h) := by
  refine Eq.trans ?_ (V_1 m c h (col t b))
  blk_simp [iblk]
  refine congrArg (V m c main_call0_v1) ?_
  blk_ext [idx_in1]
  rfl

/-- Point `t`'s day-of-month block, in the argument's elements. -/
theorem iblk_2 (c : Dev nD) (t : Fin cfg0.N) (h : Fin 50) (b : Fin 256) :
    iblk m c 2 t (ix2 h b) = m ((c : Thread nD τ).loc main_arg2) (ix2 (col t b) h) := by
  refine Eq.trans ?_ (V_2 m c h (col t b))
  blk_simp [iblk]
  refine congrArg (V m c main_call0_v2) ?_
  blk_ext [idx_in2]
  rfl

/-- Point `t`'s month block, in the argument's elements. -/
theorem iblk_3 (c : Dev nD) (t : Fin cfg0.N) (h : Fin 50) (b : Fin 256) :
    iblk m c 3 t (ix2 h b) = m ((c : Thread nD τ).loc main_arg3) (ix2 (col t b) h) := by
  refine Eq.trans ?_ (V_3 m c h (col t b))
  blk_simp [iblk]
  refine congrArg (V m c main_call0_v3) ?_
  blk_ext [idx_in3]
  rfl

/-- What the body leaves at point `t`, in the arguments' words. -/
theorem block_eq (c : Dev nD) (t : Fin cfg0.N) (h : Fin 50) (f : Fin 74) (b : Fin 256) :
    out0_4 (iblk m c 0 t) (iblk m c 1 t) (iblk m c 2 t) (iblk m c 3 t) (ix3 h f b)
      = laneMajor F (m ((c : Thread nD τ).loc main_arg0)) (m ((c : Thread nD τ).loc main_arg1))
          (m ((c : Thread nD τ).loc main_arg2)) (m ((c : Thread nD τ).loc main_arg3)) (ix3 h f (col t b)) := by
  refine (out_apply (iblk m c 0 t) (iblk m c 1 t) (iblk m c 2 t) (iblk m c 3 t) h f b).trans ?_
  rw [iblk_0, iblk_1, iblk_2, iblk_3]
  rfl

/-- The launch leaves `laneMajor` of the arguments in its output array. -/
theorem arr_eq (c : Dev nD) : (dats m 0 c).arrAt 4 cfg0.N
    = laneMajor F (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  have ey : (win0_4.blk t).view.emb y = ix3 (y 0) (y 1) (col t (y 2)) := by
    blk_ext [idx_out]
    rfl
  rw [ey]
  exact (congrArg (out0_4 _ _ _ _) (eq_ix3 y)).trans (block_eq m c t (y 0) (y 1) (y 2))

/-- After the launch the result buffer holds the transpose of the output array. -/
theorem tail_eq (c : Dev nD) (b : Fin 16384) (h : Fin 50) (f : Fin 74) :
    Pipeline.afterTail₀ cfgs (dats m) 0 (V0 m) [hostOps1] c main_v0 (ix3 b h f)
      = (dats m 0 c).arrAt 4 cfg0.N (ix3 h f b) := by
  unfold Pipeline.afterTail₀
  after_reads_at
  exact congrFun (Pipeline.withArrays_arr spec0 (by decide) c (V0 m c) (fun w => (dats m 0 c).arrAt w (cfgs 0).N) 4) _

/-- So the result buffer holds `answers` of the arguments. -/
theorem result_eq (c : Dev nD) : Pipeline.afterTail₀ cfgs (dats m) 0 (V0 m) [hostOps1] c main_v0
    = answers F (m ((c : Thread nD τ).loc main_arg0)) (m ((c : Thread nD τ).loc main_arg1))
        (m ((c : Thread nD τ).loc main_arg2)) (m ((c : Thread nD τ).loc main_arg3)) := by
  funext i
  have eta : i = ix3 (i 0) (i 1) (i 2) := eq_ix3 i
  refine (congrArg (Pipeline.afterTail₀ cfgs (dats m) 0 (V0 m) [hostOps1] c main_v0) eta).trans
    ((tail_eq m c (i 0) (i 1) (i 2)).trans ?_)
  rw [arr_eq]
  rfl

/-- The run: the result holds `answers` of the arguments, and the arguments end unchanged. -/
theorem run : θ_run defs (onTc (τ := τ) (main (F := F))) ⟨m, fun _ => 0, ρ⟩ (fun r => ∀ c : Dev nD,
    r.2.mem ((c : Thread nD τ).loc main_v0)
        = answers F (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c =>
    ⟨((h.1 c).2 main_v0 (Pipeline.mem_restRefs_of main_v0 (by decide) (by decide))).trans (result_eq m c), h.2 c⟩)
    (θ_run_and (run_main m ρ) (unchanged m ρ))

end Cert.Proof.Array

end
-- ==== Proof.Range.lean ====
/-
  The precondition, read back: of arguments it accepts, every element of the four index arrays is in its one-hot's range.
-/
module

public import proofs.«01_k».proof.Proof.Word
public import proofs.«01_k».proof.Proof.Gen.Pre_in_range
public import Idealize.ShloMosaic.Lib.ReduceAll

@[expose] public section

noncomputable section

namespace Cert.Proof.Range

open Idealize.ShloMosaic Cert.Pre_in_range Cert.Proof.Word

variable {F : FTy → Type} [FloatOps F]

/-- A word that compares at least 0 and less than `n`, signed, is less than `n` as a number. -/
theorem lt_of_cmpi (x : BitVec 32) (n : Nat) (hn : n < 2 ^ 31)
    (h : IntOp.andi (IntOp.cmpi .sge x 0#32) (IntOp.cmpi .slt x (BitVec.ofNat 32 n)) = 1#1) : x.toNat < n := by
  obtain ⟨h0, h1⟩ := IntOp.andi_eq_one.1 h
  rw [IntOp.cmpi_sge] at h0
  rw [IntOp.cmpi_slt] at h1
  have en : (BitVec.ofNat 32 n).toInt = n := by
    rw [BitVec.toInt_eq_toNat_of_lt] <;> rw [BitVec.toNat_ofNat, Nat.mod_eq_of_lt (by omega)]
    omega
  have e0 : (0#32).toInt = 0 := rfl
  rw [en] at h1
  rw [e0] at h0
  have hc := BitVec.toInt_eq_toNat_cond x
  have hl := x.isLt
  split at hc <;> omega

/-- The precondition's result has one index. -/
instance : Subsingleton S_.Idx := ⟨fun _ _ => funext fun a => a.elim0⟩

/-- What the precondition says of every position of the four arguments. -/
theorem of_pre (a0 a1 a2 a3 : IVec S16384x50 32) (h : Cert.Pre_in_range.fn (F := F) a0 a1 a2 a3 = fun _ => 1#1)
    (i : S16384x50.Idx) : InRange (a0 i) (a1 i) (a2 i) (a3 i) := by
  have e := congrFun h (fun a => a.elim0)
  unfold fn fn_part1 at e
  obtain ⟨e, e3⟩ := IntOp.andi_eq_one.1 e
  obtain ⟨e, e2⟩ := IntOp.andi_eq_one.1 e
  obtain ⟨e0, e1⟩ := IntOp.andi_eq_one.1 e
  exact ⟨lt_of_cmpi _ 24 (by decide) (Host.reduce_andi_all _ _ _ _ _ e0 i),
    lt_of_cmpi _ 7 (by decide) (Host.reduce_andi_all _ _ _ _ _ e1 i),
    lt_of_cmpi _ 31 (by decide) (Host.reduce_andi_all _ _ _ _ _ e2 i),
    lt_of_cmpi _ 12 (by decide) (Host.reduce_andi_all _ _ _ _ _ e3 i)⟩

end Cert.Proof.Range

end
-- ==== Proof.Reference.lean ====
/-
  What the reference computes: four one-hots of clipped indices side by side. Of indices in range the clip does nothing,
  and lane `f` of a position says whether the lane's field, plus the field's first lane, is `f`.
-/
module

public import proofs.«01_k».proof.Proof.Word
public import proofs.«01_k».proof.Proof.Gen.ReferenceIdeal.Read
public import Idealize.ShloMosaic.Lib.Pointwise
public import Idealize.ShloMosaic.Lib.WordCmp

@[expose] public section

noncomputable section

namespace Cert.Proof.Reference

open Idealize.ShloMosaic Cert.ReferenceIdeal Cert.ReferenceIdeal.Read Cert.Proof.Word

variable {F : FTy → Type} [FloatOps F]

/-- A word whose number is at most `k` is its own clip to `0 … k`. -/
theorem clip_eq (x : BitVec 32) (k : Nat) (hk : k < 2 ^ 31) (hx : x.toNat ≤ k) :
    IntOp.minsi (BitVec.ofNat 32 k) (IntOp.maxsi 0#32 x) = x := by
  have hx' : x.toInt = x.toNat := BitVec.toInt_eq_toNat_of_lt (by omega)
  have e : IntOp.maxsi 0#32 x = x := by
    unfold IntOp.maxsi
    rw [if_neg]
    rw [BitVec.slt_iff_toInt_lt, hx']
    exact not_lt.2 (Int.natCast_nonneg _)
  have ek : (BitVec.ofNat 32 k).toInt = k := by
    rw [BitVec.toInt_eq_toNat_of_lt] <;> rw [BitVec.toNat_ofNat, Nat.mod_eq_of_lt (by omega)]
    omega
  rw [e]
  unfold IntOp.minsi
  split
  next h => rw [BitVec.slt_iff_toInt_lt, hx', ek] at h; omega
  next => rfl

/-- One lane of a one-hot of a clipped index in range: whether the index is the lane. -/
theorem hot_eq (x : BitVec 32) (k g : Nat) (hk : k < 2 ^ 31) (hx : x.toNat ≤ k) (hg : g < 2 ^ 31) :
    IntOp.cmpi .eq (IntOp.minsi (BitVec.ofNat 32 k) (IntOp.maxsi 0#32 x)) (BitVec.ofNat 32 g)
      = BitVec.ofBool (decide (x.toNat = g)) := by
  rw [clip_eq x k hk hx, WordCmp.cmpi_eq_eq_toNat, BitVec.toNat_ofNat, Nat.mod_eq_of_lt (by omega)]

/-- The hour's one-hot before its conversion, of an index in range. -/
theorem piece_0 (x : IVec S16384x50 32) (b : Fin 16384) (h : Fin 50) (g : Fin 24) (hx : (x (ix2 b h)).toNat < 24) :
    val_main_call1_v4 (F := F) x (ix3 b h g)
      = BitVec.ofBool (decide ((x (ix2 b h)).toNat = g.val)) := by
  refine Eq.trans ?_ (hot_eq (x (ix2 b h)) 23 g.val (by decide) (Nat.le_of_lt_succ hx) (by omega))
  pointwise [val_main_call1_v4, val_main_call1_v3, val_main_call1_v2, val_main_call1_v1, val_main_call1_v0, val_main_v0,
    val_main_call0_v4, val_main_call0_v3, val_main_call0_v2, val_main_call0_v1, val_main_call0_v0, val_main_c, val_main_c_0]
  rfl

/-- The day of week's one-hot before its conversion, of an index in range. -/
theorem piece_1 (x : IVec S16384x50 32) (b : Fin 16384) (h : Fin 50) (g : Fin 7) (hx : (x (ix2 b h)).toNat < 7) :
    val_main_call3_v4 (F := F) x (ix3 b h g)
      = BitVec.ofBool (decide ((x (ix2 b h)).toNat = g.val)) := by
  refine Eq.trans ?_ (hot_eq (x (ix2 b h)) 6 g.val (by decide) (Nat.le_of_lt_succ hx) (by omega))
  pointwise [val_main_call3_v4, val_main_call3_v3, val_main_call3_v2, val_main_call3_v1, val_main_call3_v0, val_main_v2,
    val_main_call2_v4, val_main_call2_v3, val_main_call2_v2, val_main_call2_v1, val_main_call2_v0, val_main_c_1, val_main_c_2]
  rfl

/-- The day of month's one-hot before its conversion, of an index in range. -/
theorem piece_2 (x : IVec S16384x50 32) (b : Fin 16384) (h : Fin 50) (g : Fin 31) (hx : (x (ix2 b h)).toNat < 31) :
    val_main_call5_v4 (F := F) x (ix3 b h g)
      = BitVec.ofBool (decide ((x (ix2 b h)).toNat = g.val)) := by
  refine Eq.trans ?_ (hot_eq (x (ix2 b h)) 30 g.val (by decide) (Nat.le_of_lt_succ hx) (by omega))
  pointwise [val_main_call5_v4, val_main_call5_v3, val_main_call5_v2, val_main_call5_v1, val_main_call5_v0, val_main_v4,
    val_main_call4_v4, val_main_call4_v3, val_main_call4_v2, val_main_call4_v1, val_main_call4_v0, val_main_c_3, val_main_c_4]
  rfl

/-- The month's one-hot before its conversion, of an index in range. -/
theorem piece_3 (x : IVec S16384x50 32) (b : Fin 16384) (h : Fin 50) (g : Fin 12) (hx : (x (ix2 b h)).toNat < 12) :
    val_main_call7_v4 (F := F) x (ix3 b h g)
      = BitVec.ofBool (decide ((x (ix2 b h)).toNat = g.val)) := by
  refine Eq.trans ?_ (hot_eq (x (ix2 b h)) 11 g.val (by decide) (Nat.le_of_lt_succ hx) (by omega))
  pointwise [val_main_call7_v4, val_main_call7_v3, val_main_call7_v2, val_main_call7_v1, val_main_call7_v0, val_main_v6,
    val_main_call6_v4, val_main_call6_v3, val_main_call6_v2, val_main_call6_v1, val_main_call6_v0, val_main_c_5, val_main_c_6]
  rfl

/-- Asking for lane `g` of a field is asking for lane `g + p` of the field placed at `p`. -/
theorem same (x g p f : Nat) (e : g + p = f) : BitVec.ofBool (decide (x = g)) = BitVec.ofBool (decide (x + p = f)) :=
  congrArg BitVec.ofBool (decide_eq_decide.2 (by omega))

/-- The reference's result at an index, of arguments in range there. -/
theorem ref_apply (x0 x1 x2 x3 : IVec S16384x50 32) (b : Fin 16384) (h : Fin 50) (f : Fin 74)
    (hr : InRange (x0 (ix2 b h)) (x1 (ix2 b h)) (x2 (ix2 b h)) (x3 (ix2 b h))) :
    val_main_v8 (F := F) x0 x1 x2 x3 (ix3 b h f)
      = FloatOps.uitofp .f32 (BitVec.ofBool (decide
          ((field (x0 (ix2 b h)) (x1 (ix2 b h)) (x2 (ix2 b h)) (x3 (ix2 b h)) (byteOf f.val)).toNat
            + base (byteOf f.val) = f.val))) := by
  obtain ⟨h0, h1, h2, h3⟩ := hr
  have hf := f.isLt
  unfold val_main_v8
  pointwise
  simp only [val_main_v1_apply, val_main_v3_apply, val_main_v5_apply, val_main_v7_apply]
  split
  next l0 =>
    rw [show byteOf f.val = 0 from if_pos l0]
    exact congrArg (FloatOps.uitofp .f32) ((piece_0 x0 b h ⟨f.val, l0⟩ h0).trans (same _ _ _ _ rfl))
  next l0 =>
  split
  next l1 =>
    rw [show byteOf f.val = 1 from (if_neg l0).trans (if_pos (by omega))]
    exact congrArg (FloatOps.uitofp .f32) ((piece_1 x1 b h ⟨f.val - 24, l1⟩ h1).trans (same _ _ _ _ (by show _ - 24 + 24 = _; omega)))
  next l1 =>
  split
  next l2 =>
    rw [show byteOf f.val = 2 from (if_neg l0).trans ((if_neg (by omega)).trans (if_pos (by omega)))]
    exact congrArg (FloatOps.uitofp .f32) ((piece_2 x2 b h ⟨f.val - 24 - 7, l2⟩ h2).trans (same _ _ _ _ (by show _ - 24 - 7 + 31 = _; omega)))
  next l2 =>
    rw [show byteOf f.val = 3 from (if_neg l0).trans ((if_neg (by omega)).trans (if_neg (by omega)))]
    exact congrArg (FloatOps.uitofp .f32)
      ((piece_3 x3 b h ⟨f.val - 24 - 7 - 31, by omega⟩ h3).trans (same _ _ _ _ (by show _ - 24 - 7 - 31 + 62 = _; omega)))

end Cert.Proof.Reference

end
-- ==== Proof.Equation.lean ====
/-
  The equation: over the ideal values the kernel's result and the reference's are the same number, 0 or 1, at every index,
  of arguments in range.
-/
module

public import proofs.«01_k».proof.Proof.Array
public import proofs.«01_k».proof.Proof.Reference

@[expose] public section

noncomputable section

namespace Cert.Proof.Equation

open Idealize.ShloMosaic Cert.Proof.Word Cert.Proof.Block Cert.Proof.Array Cert.Proof.Reference

/-- A bit widened to a word and read signed is the bit read unsigned. -/
theorem bit_eq (p : BitVec 1) : FloatOps.sitofp (F := Ideal) .f32 (p.setWidth 32) = FloatOps.uitofp (F := Ideal) .f32 p := by
  show (((p.setWidth 32).toInt : ℝ) : EReal) = ((p.toNat : ℝ) : EReal)
  have h : ∀ q : BitVec 1, (q.setWidth 32).toInt = (q.toNat : Int) := by decide
  rw [h p, Int.cast_natCast]

/-- The word has four bytes. -/
theorem byteOf_lt (f : Nat) : byteOf f < 4 := by
  unfold byteOf
  split_ifs <;> decide

/-- A lane's answer about a packed word of fields in range: whether the lane's field, plus its first lane, is the lane. -/
theorem lane_pack {h d m o : BitVec 32} (hr : InRange h d m o) (f : Nat) (hf : f < 74) :
    lane Ideal (pack h d m o) f
      = FloatOps.uitofp .f32 (BitVec.ofBool (decide ((field h d m o (byteOf f)).toNat + base (byteOf f) = f))) := by
  unfold lane
  rw [bit_eq, WordCmp.cmpi_eq_eq, decide_eq_decide.2 (hit_iff hr f (byteOf f) hf (byteOf_lt f))]

/-- The kernel's result is the reference's. -/
theorem answers_eq (a0 a1 a2 a3 : IVec Cert.ReferenceIdeal.S16384x50 32)
    (hr : ∀ i, InRange (a0 i) (a1 i) (a2 i) (a3 i)) :
    answers Ideal a0 a1 a2 a3 = Cert.ReferenceIdeal.Read.val_main_v8 (F := Ideal) a0 a1 a2 a3 := by
  funext i
  refine ((lane_pack (hr (ix2 (i 0) (i 1))) (i 2).val (i 2).isLt).trans
    (ref_apply a0 a1 a2 a3 (i 0) (i 1) (i 2) (hr _)).symm).trans ?_
  exact congrArg (Cert.ReferenceIdeal.Read.val_main_v8 (F := Ideal) a0 a1 a2 a3) (eq_ix3 i).symm

end Cert.Proof.Equation

end
-- ==== Proof.lean ====
/-
  The certificate: the calendar one-hot kernel (four fields packed into the bytes of one word, and every lane comparing
  its field's byte) against the plain one-hots of the four index arrays. Proof/Word.lean is about the packed word,
  Proof/Block.lean about one grid point, Proof/Array.lean about the launch and the transposes around it,
  Proof/Reference.lean about the reference, Proof/Range.lean about the precondition, Proof/Equation.lean about the two
  results being one. This file assembles them.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Pre_in_range
public import proofs.«01_k».proof.Proof.Gen.ReferenceIdeal
public import proofs.«01_k».proof.Proof.Gen.ReferenceIdeal.Run
public import proofs.«01_k».proof.Proof.Gen.ReferenceIdeal.Read
public import proofs.«01_k».proof.Proof.Array
public import proofs.«01_k».proof.Proof.Range
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The reference's run: its arguments end unchanged; it has no semaphores. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The value claim: of arguments in range the two programs end with one result. -/
theorem value : Cert.algebraic_KernelIdeal_ReferenceIdeal_pre_in_range := by
  intro m ρ m' ρ' hpre hagree
  refine ⟨_, Array.run (F := Ideal) m ρ, ?_⟩
  refine (θ_run Cert.ReferenceIdeal.defs _ _).mono (fun r h c => ⟨(h c).1.trans ?_, (h c).2⟩)
    (Cert.ReferenceIdeal.Value.run (F := Ideal) m' ρ')
  obtain ⟨e0, e1, e2, e3⟩ := hagree c
  refine (Cert.ReferenceIdeal.Read.val_main_v8_eq (F := Ideal) _ _ _ _).trans ?_
  rw [e0, e1, e2, e3]
  exact (Equation.answers_eq _ _ _ _ (Range.of_pre (F := Ideal) _ _ _ _ (hpre c))).symm

/-- Everything the certificate claims. -/
theorem claim : Cert.Claim :=
  ⟨Cert.Kernel.Gen.facts, Cert.KernelIdeal.Gen.facts, Cert.ReferenceIdeal.Gen.facts, Cert.Pre_in_range.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    trivial, value⟩

end Cert.Proof

end
